-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "eps2" .f32 0x179ABE15#32 ((5316911940649 / 5316911983139663491615228241121378304 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S64x512 : Shape := ⟨2, ![64, 512]⟩
abbrev S64 : Shape := ⟨1, ![64]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x512x32x32 .f32) (main_arg1 : FVec F S64x512 .f32) (main_arg2 : FVec F S64 .f32) (main_arg3 : FVec F S64x512 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S64x512x32x32 : Shape := ⟨4, ![64, 512, 32, 32]⟩
abbrev S64x512 : Shape := ⟨2, ![64, 512]⟩
abbrev S64 : Shape := ⟨1, ![64]⟩
abbrev S64x32x32x512 : Shape := ⟨4, ![64, 32, 32, 512]⟩
abbrev S8x8x1024x512 : Shape := ⟨4, ![8, 8, 1024, 512]⟩
abbrev S64x8x8x512 : Shape := ⟨4, ![64, 8, 8, 512]⟩
abbrev S1x8x1024x512 : Shape := ⟨4, ![1, 8, 1024, 512]⟩
abbrev S64x1x8x512 : Shape := ⟨4, ![64, 1, 8, 512]⟩
abbrev S8x64x512 : Shape := ⟨3, ![8, 64, 512]⟩
abbrev S8x1024x512 : Shape := ⟨3, ![8, 1024, 512]⟩
abbrev S8192x512 : Shape := ⟨2, ![8192, 512]⟩
abbrev S8192x64 : Shape := ⟨2, ![8192, 64]⟩
abbrev S8x32x32x64 : Shape := ⟨4, ![8, 32, 32, 64]⟩
abbrev S8x32x64 : Shape := ⟨3, ![8, 32, 64]⟩
abbrev S8x1x32x64 : Shape := ⟨4, ![8, 1, 32, 64]⟩
abbrev S1024x64 : Shape := ⟨2, ![1024, 64]⟩
abbrev S1024x512 : Shape := ⟨2, ![1024, 512]⟩
abbrev S512 : Shape := ⟨1, ![512]⟩
abbrev S1x512 : Shape := ⟨2, ![1, 512]⟩
abbrev S1x64x512 : Shape := ⟨3, ![1, 64, 512]⟩
abbrev S64x8x512 : Shape := ⟨3, ![64, 8, 512]⟩
abbrev S64x64x512 : Shape := ⟨3, ![64, 64, 512]⟩
abbrev S512x64x64 : Shape := ⟨3, ![512, 64, 64]⟩

abbrev nBuf : Space → Nat
  | .hbm => 9
  | .vmem => 7
  | .smem => 0
  | _ => 0

abbrev bufTy : (tb : Table) → Fin (tcTables nBuf tb) → BufTy
  | .hbm, ⟨0, _⟩ => ⟨S64x512x32x32, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64x32x32x512, .f32⟩
  | .hbm, ⟨5, _⟩ => ⟨S8x8x1024x512, .f32⟩
  | .hbm, ⟨6, _⟩ => ⟨S64x8x8x512, .f32⟩
  | .hbm, ⟨7, _⟩ => ⟨S64x64x512, .f32⟩
  | .hbm, ⟨8, _⟩ => ⟨S512x64x64, .f32⟩
  | .local _ .vmem, ⟨0, _⟩ => ⟨S1x8x1024x512, .f32⟩
  | .local _ .vmem, ⟨1, _⟩ => ⟨S1x8x1024x512, .f32⟩
  | .local _ .vmem, ⟨2, _⟩ => ⟨S64x512, .f32⟩
  | .local _ .vmem, ⟨3, _⟩ => ⟨S64x512, .f32⟩
  | .local _ .vmem, ⟨4, _⟩ => ⟨S64x1x8x512, .f32⟩
  | .local _ .vmem, ⟨5, _⟩ => ⟨S64x1x8x512, .f32⟩
  | .local _ .vmem, ⟨6, _⟩ => ⟨S8x64x512, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x8x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "eps2" => some ((5316911940649 / 5316911983139663491615228241121378304 : ℝ) : EReal)
  | "log2e" => some (((Real.log 2)⁻¹ : ℝ) : EReal)
  | _ => none
-- ==== ReferenceIdeal.lean ====
abbrev S64x512x32x32 : Shape := ⟨4, ![64, 512, 32, 32]⟩
abbrev S64x512 : Shape := ⟨2, ![64, 512]⟩
abbrev S64 : Shape := ⟨1, ![64]⟩
abbrev S64x64x32x32 : Shape := ⟨4, ![64, 64, 32, 32]⟩
abbrev S1x64x1x1 : Shape := ⟨4, ![1, 64, 1, 1]⟩
abbrev S_ : Shape := ⟨0, ![]⟩
abbrev S64x64x32 : Shape := ⟨3, ![64, 64, 32]⟩
abbrev S64x64x1x32 : Shape := ⟨4, ![64, 64, 1, 32]⟩
abbrev S64x64x1024 : Shape := ⟨3, ![64, 64, 1024]⟩
abbrev S64x512x1024 : Shape := ⟨3, ![64, 512, 1024]⟩
abbrev S64x64x512 : Shape := ⟨3, ![64, 64, 512]⟩
abbrev S64x64 : Shape := ⟨2, ![64, 64]⟩
abbrev S64x64x1 : Shape := ⟨3, ![64, 64, 1]⟩
abbrev S1x64x512 : Shape := ⟨3, ![1, 64, 512]⟩
abbrev S512x64x64 : Shape := ⟨3, ![512, 64, 64]⟩
abbrev S512x64 : Shape := ⟨2, ![512, 64]⟩
abbrev S512x1x64 : Shape := ⟨3, ![512, 1, 64]⟩

abbrev nBuf : Space → Nat
  | .hbm => 45
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64x64x32x32, .f32⟩
  | .hbm, ⟨5, _⟩ => ⟨S64x64x32x32, .f32⟩
  | .hbm, ⟨6, _⟩ => ⟨S1x64x1x1, .f32⟩
  | .hbm, ⟨7, _⟩ => ⟨S64x64x32x32, .f32⟩
  | .hbm, ⟨8, _⟩ => ⟨S64x64x32x32, .f32⟩
  | .hbm, ⟨9, _⟩ => ⟨S_, .f32⟩
  | .hbm, ⟨10, _⟩ => ⟨S64x64x32, .f32⟩
  | .hbm, ⟨11, _⟩ => ⟨S_, .f32⟩
  | .hbm, ⟨12, _⟩ => ⟨S64x64x32, .f32⟩
  | .hbm, ⟨13, _⟩ => ⟨S64x64x32, .f32⟩
  | .hbm, ⟨14, _⟩ => ⟨S64x64x1x32, .f32⟩
  | .hbm, ⟨15, _⟩ => ⟨S64x64x32x32, .f32⟩
  | .hbm, ⟨16, _⟩ => ⟨S64x64x32x32, .f32⟩
  | .hbm, ⟨17, _⟩ => ⟨S64x64x32x32, .f32⟩
  | .hbm, ⟨18, _⟩ => ⟨S_, .f32⟩
  | .hbm, ⟨19, _⟩ => ⟨S64x64x32, .f32⟩
  | .hbm, ⟨20, _⟩ => ⟨S64x64x1x32, .f32⟩
  | .hbm, ⟨21, _⟩ => ⟨S64x64x32x32, .f32⟩
  | .hbm, ⟨22, _⟩ => ⟨S64x64x32x32, .f32⟩
  | .hbm, ⟨23, _⟩ => ⟨S64x64x1024, .f32⟩
  | .hbm, ⟨24, _⟩ => ⟨S64x512x1024, .f32⟩
  | .hbm, ⟨25, _⟩ => ⟨S64x64x512, .f32⟩
  | .hbm, ⟨26, _⟩ => ⟨S_, .f32⟩
  | .hbm, ⟨27, _⟩ => ⟨S64x64, .f32⟩
  | .hbm, ⟨28, _⟩ => ⟨S64x64x1, .f32⟩
  | .hbm, ⟨29, _⟩ => ⟨S1x64x512, .f32⟩
  | .hbm, ⟨30, _⟩ => ⟨S64x64x512, .f32⟩
  | .hbm, ⟨31, _⟩ => ⟨S64x64x512, .f32⟩
  | .hbm, ⟨32, _⟩ => ⟨S64x64x512, .f32⟩
  | .hbm, ⟨33, _⟩ => ⟨S64x64x512, .f32⟩
  | .hbm, ⟨34, _⟩ => ⟨S512x64x64, .f32⟩
  | .hbm, ⟨35, _⟩ => ⟨S512x64x64, .f32⟩
  | .hbm, ⟨36, _⟩ => ⟨S_, .f32⟩
  | .hbm, ⟨37, _⟩ => ⟨S512x64, .f32⟩
  | .hbm, ⟨38, _⟩ => ⟨S512x1x64, .f32⟩
  | .hbm, ⟨39, _⟩ => ⟨S512x1x64, .f32⟩
  | .hbm, ⟨40, _⟩ => ⟨S_, .f32⟩
  | .hbm, ⟨41, _⟩ => ⟨S512x1x64, .f32⟩
  | .hbm, ⟨42, _⟩ => ⟨S512x1x64, .f32⟩
  | .hbm, ⟨43, _⟩ => ⟨S512x64x64, .f32⟩
  | .hbm, ⟨44, _⟩ => ⟨S512x64x64, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Math.lean ====
/- The mathematics of the certificate, with no program in it: what one image's residuals and their normalised values
   are, as the kernel computes them and as the reference does, and that the two agree where pixels, weights and biases
   are finite. Pixels are numbered `32 * h + u` for row `h` and column `u`. -/
module

public import Idealize.ShloMosaic.PureOps.Ideal
public import Idealize.ShloMosaic.Lib.IdealHost

@[expose] public section

noncomputable section

namespace Cert.Netvlad

open Idealize.ShloMosaic

/-- The pixel in row `h` and column `u` of an image. -/
def pixel (h u : Fin 32) : Fin 1024 := ⟨h.val * 32 + u.val, by omega⟩

/-- The row of a pixel. -/
def row (n : Fin 1024) : Fin 32 := ⟨n.val / 32, by omega⟩

/-- The column of a pixel. -/
def col (n : Fin 1024) : Fin 32 := ⟨n.val % 32, by omega⟩

/-- A pixel is the one in its row and column. -/
theorem pixel_row_col (n : Fin 1024) : pixel (row n) (col n) = n := by
  apply Fin.ext; simp only [pixel, row, col]; omega

/-- A sum over the pixels is the sum over the columns of the sums down the rows. -/
theorem sum_pixels {M : Type} [AddCommMonoid M] (f : Fin 1024 → M) : ∑ n, f n = ∑ u, ∑ h, f (pixel h u) := by
  rw [Finset.sum_comm, ← Fintype.sum_prod_type' (f := fun h u => f (pixel h u))]
  refine (Fintype.sum_equiv ⟨fun p : Fin 32 × Fin 32 => pixel p.1 p.2, fun n => (row n, col n), ?_, pixel_row_col⟩ _ _ fun _ => rfl).symm
  rintro ⟨h, u⟩
  refine Prod.ext (Fin.ext ?_) (Fin.ext ?_) <;> simp only [pixel, row, col] <;> omega

section Defs
variable (X : Fin 1024 → Fin 512 → EReal) (W C : Fin 64 → Fin 512 → EReal)

/-- The logarithm to base two of a pixel's unnormalised weight. -/
def score (n : Fin 1024) (k : Fin 64) : EReal := ∑ d, X n d * (W k d * (((Real.log 2)⁻¹ : ℝ) : EReal))

/-- A pixel's weight in a cluster: normalised down the pixel's column. -/
def weight (n : Fin 1024) (k : Fin 64) : EReal :=
  Ideal.div (Ideal.exp2 (score X W n k)) (∑ h, Ideal.exp2 (score X W (pixel h (col n)) k))

/-- The cluster's weighted sum of the pixels, less 32 times its centre. -/
def resid (k : Fin 64) (d : Fin 512) : EReal :=
  (∑ n, weight X W n k * X n d) - C k d * Ideal.ofBits .f32 0x42000000#32

/-- The residual over its norm across the clusters, by the reciprocal root of the bounded sum of squares. -/
def out (k : Fin 64) (d : Fin 512) : EReal :=
  resid X W C k d * Ideal.rsqrt (max (∑ k', resid X W C k' d * resid X W C k' d)
    ((5316911940649 / 5316911983139663491615228241121378304 : ℝ) : EReal))

end Defs

/-! ## The constants -/

/-- The word of 32. -/
theorem word_thirtytwo : Ideal.ofBits .f32 0x42000000#32 = ((32 : ℝ) : EReal) := by
  simp [Ideal.ofBits, Ideal.ieee]; rw [← EReal.coe_mul]; norm_num

/-- The word nearest a millionth of a millionth. -/
theorem word_eps : Ideal.ofBits .f32 0x2B8CBCCC#32 = ((2305843 / 2305843009213693952 : ℝ) : EReal) := by
  simp [Ideal.ofBits, Ideal.ieee]; rw [← EReal.coe_mul]; norm_num

/-- The word of minus infinity. -/
theorem word_bot : Ideal.ofBits .f32 0xFF800000#32 = ⊥ := by
  simp [Ideal.ofBits, Ideal.ieee]

/-- The word of plus infinity. -/
theorem word_top : Ideal.ofBits .f32 0x7F800000#32 = ⊤ := by
  simp [Ideal.ofBits, Ideal.ieee]

/-! ## The normalisation -/

/-- A square is at least zero. -/
theorem square_nonneg (v : EReal) : 0 ≤ v * v := by
  induction v with
  | bot => simp
  | top => simp
  | coe r => exact_mod_cast mul_self_nonneg r

/-- Multiplying by the reciprocal root of a sum bounded below by the square of a number is dividing by the root bounded
    below by that number. -/
theorem normalise (v s : EReal) (hs : 0 ≤ s) :
    Ideal.div v (max (Ideal.sqrt s) (Ideal.ofBits .f32 0x2B8CBCCC#32))
      = v * Ideal.rsqrt (max s ((5316911940649 / 5316911983139663491615228241121378304 : ℝ) : EReal)) := by
  rw [word_eps]
  induction s with
  | bot => simp at hs
  | top =>
    rw [show Ideal.sqrt ⊤ = ⊤ from rfl, max_eq_left le_top, max_eq_left le_top, show Ideal.rsqrt ⊤ = 0 from rfl]
    simp [Ideal.div]
  | coe r =>
    have hr : 0 ≤ r := by exact_mod_cast hs
    have he : (0 : ℝ) < 2305843 / 2305843009213693952 := by norm_num
    have hm : Real.sqrt (max r (5316911940649 / 5316911983139663491615228241121378304))
        = max (Real.sqrt r) (2305843 / 2305843009213693952) := by
      rw [show (5316911940649 / 5316911983139663491615228241121378304 : ℝ) = (2305843 / 2305843009213693952) ^ 2 by norm_num,
        (show Monotone Real.sqrt from fun _ _ h => Real.sqrt_le_sqrt h).map_max, Real.sqrt_sq he.le]
    have hp : 0 < max r (5316911940649 / 5316911983139663491615228241121378304) := lt_max_of_lt_right (by norm_num)
    have hq : max (Real.sqrt r) (2305843 / 2305843009213693952) ≠ 0 := (lt_max_of_lt_right he).ne'
    rw [Ideal.sqrt_coe, if_neg (not_lt.2 hr), ← EReal.coe_strictMono.monotone.map_max, ← EReal.coe_strictMono.monotone.map_max, Ideal.rsqrt_coe, if_neg (not_lt.2 hp.le),
      if_neg hp.ne', hm, Ideal.div_coe hq, one_div]

/-! ## The weights -/

/-- A finite sum of real numbers is a real number. -/
theorem sum_coe {ι : Type} [Fintype ι] (f : ι → ℝ) : ∑ i, ((f i : ℝ) : EReal) = ((∑ i, f i : ℝ) : EReal) :=
  (map_sum (⟨⟨fun r : ℝ => (r : EReal), EReal.coe_zero⟩, EReal.coe_add⟩ : ℝ →+ EReal) f Finset.univ).symm

section Real
variable (x : Fin 1024 → Fin 512 → ℝ) (w : Fin 64 → Fin 512 → ℝ)

/-- The score of real pixels and weights is the product over the logarithm of two. -/
theorem score_real (n : Fin 1024) (k : Fin 64) :
    score (fun n d => (x n d : EReal)) (fun k d => (w k d : EReal)) n k
      = (((∑ d, x n d * w k d) * (Real.log 2)⁻¹ : ℝ) : EReal) := by
  unfold score
  rw [Finset.sum_mul, ← sum_coe]
  exact Finset.sum_congr rfl fun d _ => by push_cast; rw [mul_assoc]

/-- Two to the power of it is the exponential of the product. -/
theorem exp2_score (n : Fin 1024) (k : Fin 64) :
    Ideal.exp2 (score (fun n d => (x n d : EReal)) (fun k d => (w k d : EReal)) n k)
      = ((Real.exp (∑ d, x n d * w k d) : ℝ) : EReal) := by
  rw [score_real, Ideal.exp2_coe, show ∀ r : ℝ, Real.rpow 2 r = (2 : ℝ) ^ r from fun _ => rfl,
    Real.rpow_def_of_pos (by norm_num : (0 : ℝ) < 2), mul_comm, mul_assoc,
    inv_mul_cancel₀ (Real.log_pos (by norm_num : (1 : ℝ) < 2)).ne', mul_one]

/-- The weight of real pixels and weights is a quotient of exponentials. -/
theorem weight_real (n : Fin 1024) (k : Fin 64) :
    weight (fun n d => (x n d : EReal)) (fun k d => (w k d : EReal)) n k
      = ((Real.exp (∑ d, x n d * w k d) / ∑ h, Real.exp (∑ d, x (pixel h (col n)) d * w k d) : ℝ) : EReal) := by
  unfold weight
  simp only [exp2_score]
  rw [sum_coe, Ideal.div_coe (Finset.sum_pos (fun _ _ => Real.exp_pos _) Finset.univ_nonempty).ne', ← EReal.coe_mul,
    mul_one_div]

/-- A cluster's weights over an image sum to 32, one for each column. -/
theorem sum_weight_real (k : Fin 64) :
    ∑ n, weight (fun n d => (x n d : EReal)) (fun k d => (w k d : EReal)) n k = ((32 : ℝ) : EReal) := by
  simp only [weight_real]
  rw [sum_coe, sum_pixels]
  have hc : ∀ h u, col (pixel h u) = u := fun h u => Fin.ext (by simp only [col, pixel]; omega)
  simp only [hc, ← Finset.sum_div]
  have h1 : ∀ u : Fin 32, (∑ h, Real.exp (∑ d, x (pixel h u) d * w k d)) / (∑ h, Real.exp (∑ d, x (pixel h u) d * w k d)) = 1 :=
    fun u => div_self (Finset.sum_pos (fun _ _ => Real.exp_pos _) Finset.univ_nonempty).ne'
  simp only [h1]
  norm_num

/-- The exponentials shifted by a column's bias and by any number normalise to the same weight. -/
theorem softmax_real (b : Fin 64 → ℝ) (t : ℝ) (n : Fin 1024) (k : Fin 64) :
    Ideal.div (Ideal.exp (((∑ d, x n d * w k d) + b k - t : ℝ) : EReal))
        (∑ h, Ideal.exp (((∑ d, x (pixel h (col n)) d * w k d) + b k - t : ℝ) : EReal))
      = weight (fun n d => (x n d : EReal)) (fun k d => (w k d : EReal)) n k := by
  simp only [weight_real, Ideal.exp_coe]
  rw [sum_coe, Ideal.div_coe (Finset.sum_pos (fun _ _ => Real.exp_pos _) Finset.univ_nonempty).ne', ← EReal.coe_mul,
    mul_one_div]
  simp only [add_sub_assoc, Real.exp_add]
  rw [← Finset.sum_mul, mul_div_mul_right _ _ (Real.exp_pos _).ne']

end Real

/-- The greatest of finitely many real numbers, of at least one, is a real number. -/
theorem fold_max_real {ι : Type} [Fintype ι] [Nonempty ι] (f : ι → ℝ) :
    ∃ t : ℝ, max (⊥ : EReal) (Finset.fold max ⊥ (fun i => (f i : EReal)) Finset.univ) = (t : EReal) := by
  obtain ⟨i, -, hi⟩ := Finset.exists_max_image (Finset.univ : Finset ι) f Finset.univ_nonempty
  refine ⟨f i, ?_⟩
  rw [max_eq_right bot_le]
  refine le_antisymm ?_ ?_
  · rw [Finset.fold_max_le]
    exact ⟨bot_le, fun j hj => EReal.coe_le_coe_iff.2 (hi j hj)⟩
  · rw [Finset.le_fold_max]
    exact .inr ⟨i, Finset.mem_univ i, le_rfl⟩

end Cert.Netvlad

end
-- ==== Proof.Slab.lean ====
/- What the kernel's body stores, read at an index. Its eight stores into the scratch buffer are one function of the
   image's first row in the block (`slab`), and an entry of that function is `Cert.Netvlad.out` of the image's pixels. -/
module

public import proofs.«01_k».proof.Proof.Math
public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Vlad

open Idealize.ShloMosaic Idealize.ShloMosaic.TcCoe Idealize.SL.Sem
open Cert.KernelIdeal Cert.KernelIdeal.Gen Cert.KernelIdeal.Facts Cert.Netvlad

/-- One image's slab: the rows `o … o + 1023` of the weights `a` and of the pixels `p`, contracted over the rows, less 32
    times the centres `c`, each column times the reciprocal root of its bounded sum of squares. -/
def slab (o : ℕ) (ha : S8192x64.Slices ![o, 0] S1024x64) (hp : S8192x512.Slices ![o, 0] S1024x512)
    (p : FVec Ideal S8192x512 .bf16) (a : FVec Ideal S8192x64 .bf16) (c : Vec Ideal S64x512 .f32) :
    FVec Ideal S1x64x512 .f32 :=
  let v := subf (matmul dot_S1024x64_S1024x512_S64x512_0_0_1_1_n_n none (extractStridedSlice S1024x64 ![o, 0] a ha)
      (extractStridedSlice S1024x512 ![o, 0] p hp) (constant S64x512 .f32 0x00000000#32))
    (mulf c (broadcast S64x512 (Scalar.ofBits .f32 0x42000000#32)))
  let s := shapeCast S1x512 (multiReduction .add [0] S512 (mulf v v) 0x00000000#32 reduces_S64x512_S512 (.inl rfl) rfl)
    shapeCasts_S512_S1x512
  shapeCast S1x64x512 (mulf v (broadcastTo S64x512
    (rsqrt (maximumf s (broadcast S1x512 (Named.named κ "eps2" 0x179ABE15#32)))) broadcasts_S1x512_S64x512))
    shapeCasts_S64x512_S1x64x512

/-! ## The eight stores are slabs -/

section Stores
variable (p : FVec Ideal S8192x512 .bf16) (a : FVec Ideal S8192x64 .bf16) (v0 : Vec Ideal S64x512 .f32)
  (v4 : Vec Ideal S1x8x1024x512 .f32) (c : Vec Ideal S64x512 .f32)

/-- The store for image 0 of the block. -/
theorem store_0 : k0_pay5 v0 v4 c = slab 0 slices_S8192x64_o0_0_S1024x64 slices_S8192x512_o0_0_S1024x512
    (k0_pay3 v4) (k0_pay4 v0 v4) c := rfl

/-- The store for image 1. -/
theorem store_1 : k0_pay7 (k0_pay6 v0 v4) c = slab 1024 slices_S8192x64_o1024_0_S1024x64
    slices_S8192x512_o1024_0_S1024x512 (k0_pay3 v4) (k0_pay4 v0 v4) c := rfl

/-- The store for image 2. -/
theorem store_2 : k0_pay8 p a c = slab 2048 slices_S8192x64_o2048_0_S1024x64 slices_S8192x512_o2048_0_S1024x512 p a c := rfl

/-- The store for image 3. -/
theorem store_3 : k0_pay11 (k0_pay9 p a) c k0_pay10 = slab 3072 slices_S8192x64_o3072_0_S1024x64
    slices_S8192x512_o3072_0_S1024x512 p a c := rfl

/-- The store for image 4. -/
theorem store_4 : k0_pay12 p a c = slab 4096 slices_S8192x64_o4096_0_S1024x64 slices_S8192x512_o4096_0_S1024x512 p a c := rfl

/-- The store for image 5. -/
theorem store_5 : k0_pay15 (k0_pay13 p a c) (k0_pay14 p a c) = slab 5120 slices_S8192x64_o5120_0_S1024x64
    slices_S8192x512_o5120_0_S1024x512 p a c := rfl

/-- The store for image 6. -/
theorem store_6 : k0_pay16 p a c = slab 6144 slices_S8192x64_o6144_0_S1024x64 slices_S8192x512_o6144_0_S1024x512 p a c := rfl

/-- The store for image 7. -/
theorem store_7 : k0_pay1 (k0_pay17 p a c) (k0_pay18 p a c) k0_pay19 = slab 7168 slices_S8192x64_o7168_0_S1024x64
    slices_S8192x512_o7168_0_S1024x512 p a c := rfl

end Stores

/-! ## An entry of a slab -/

section Entries
variable (x0 : Vec Ideal S1x8x1024x512 .f32) (x1 x2 : Vec Ideal S64x512 .f32)

/-- Image `g` of a block, by pixel and channel. -/
def image (g : Fin 8) : Fin 1024 → Fin 512 → EReal := fun n d => x0 (ix4 0 g n d)

/-- A matrix of clusters by channels, as a function of the two. -/
def matrix : Fin 64 → Fin 512 → EReal := fun k d => x1 (ix2 k d)

/-- The constant by which the weights are multiplied is the reciprocal of the logarithm of two. -/
theorem named_log2e : Named.named (F := Ideal) (φ := .f32) κ "log2e" 0x3FB8AA3B#32 = (((Real.log 2)⁻¹ : ℝ) : EReal) :=
  IdealRules.named_const.ideal_named_scalar _ _ _ _ rfl

/-- The bound of the sums of squares. -/
theorem named_eps2 : Named.named (F := Ideal) (φ := .f32) κ "eps2" 0x179ABE15#32
    = ((5316911940649 / 5316911983139663491615228241121378304 : ℝ) : EReal) :=
  IdealRules.named_const.ideal_named_scalar _ _ _ _ rfl

/-- A row of the pixels: its image is the quotient by 1024, its pixel the remainder. -/
theorem pixels_apply (r : Fin 8192) (d : Fin 512) :
    k0_pay3 x0 (ix2 r d) = x0 (ix4 0 ⟨r.val / 1024, by omega⟩ ⟨r.val % 1024, by omega⟩ d) := by
  pointwise [k0_pay3]

/-- The pixel `n` of image `g` in the block's pixels. -/
theorem pixels_image (g : Fin 8) (n : Fin 1024) (r : Fin 8192) (hr : r.val = 1024 * g.val + n.val) (d : Fin 512) :
    k0_pay3 x0 (ix2 r d) = image x0 g n d := by
  rw [pixels_apply]
  have h1 : r.val / 1024 = g.val := by omega
  have h2 : r.val % 1024 = n.val := by omega
  simp only [h1, h2, image]

/-- The weight of pixel `n` of image `g` in the block's weights. -/
theorem weights_image (g : Fin 8) (n : Fin 1024) (r : Fin 8192) (hr : r.val = 1024 * g.val + n.val) (k : Fin 64) :
    k0_pay4 x1 x0 (ix2 r k) = weight (image x0 g) (matrix x1) n k := by
  pointwise [k0_pay4]
  rw [named_log2e]
  unfold weight score
  refine congrArg₂ Ideal.div ?_ ?_
  · exact congrArg Ideal.exp2 (Finset.sum_congr rfl fun d _ => by rw [pixels_image x0 g n r hr d]; rfl)
  · refine Finset.sum_congr rfl fun h _ => congrArg Ideal.exp2 (Finset.sum_congr rfl fun d _ => ?_)
    rw [pixels_image x0 g (pixel h (col n)) _ (by simp only [pixel, col]; omega) d]
    rfl

/-- An entry of the slab of image `g`. -/
theorem slab_apply (g : Fin 8) (o : ℕ) (ho : o = 1024 * g.val) (ha hp) (k : Fin 64) (d : Fin 512) :
    slab o ha hp (k0_pay3 x0) (k0_pay4 x1 x0) x2 (ix3 0 k d) = out (image x0 g) (matrix x1) (matrix x2) k d := by
  have hv : ∀ k' : Fin 64, (∑ n : Fin 1024, k0_pay4 x1 x0 (ix2 ⟨o + n.val, by omega⟩ k') * k0_pay3 x0 (ix2 ⟨o + n.val, by omega⟩ d))
      - x2 (ix2 k' d) * Ideal.ofBits .f32 0x42000000#32 = resid (image x0 g) (matrix x1) (matrix x2) k' d := fun k' => by
    unfold resid
    refine congrArg (· - _) (Finset.sum_congr rfl fun n _ => ?_)
    rw [pixels_image x0 g n _ (by simp only; omega), weights_image x0 x1 g n _ (by simp only; omega)]
  pointwise [slab]
  rw [named_eps2]
  unfold out
  simp only [← hv]

/-- The scratch buffer after the eight stores, as one function: image, cluster, channel. -/
def scratch : S8x64x512.Idx → EReal := fun j => out (image x0 (j 0)) (matrix x1) (matrix x2) (j 1) (j 2)

/-- A slab is that function over the rectangle it is stored in. -/
theorem slab_piece (g : Fin 8) (o : ℕ) (ho : o = 1024 * g.val) (ha hp)
    (inb : ∀ a, (![g.val, 0, 0] : Fin 3 → ℕ) a + (![1, 64, 512] : Fin 3 → ℕ) a ≤ S8x64x512.size a)
    (y : (Rect.unit (s := S8x64x512) ![g.val, 0, 0] ![1, 64, 512] inb).shape.Idx) :
    slab o ha hp (k0_pay3 x0) (k0_pay4 x1 x0) x2 y
      = scratch x0 x1 x2 ((Rect.unit (s := S8x64x512) ![g.val, 0, 0] ![1, 64, 512] inb).emb y) := by
  obtain ⟨u, k, d, rfl⟩ : ∃ (u : Fin 1) (k : Fin 64) (d : Fin 512), y = ix3 u k d := ⟨y 0, y 1, y 2, eq_ix3 y⟩
  obtain rfl : u = 0 := Subsingleton.elim _ _
  rw [slab_apply x0 x1 x2 g o ho ha hp k d]
  unfold scratch
  have e : ∀ a, (((Rect.unit (s := S8x64x512) ![g.val, 0, 0] ![1, 64, 512] inb).emb (ix3 0 k d)) a).val
      = (![g.val, 0, 0] : Fin 3 → ℕ) a + (ix3 (0 : Fin 1) k d a).val := fun a =>
    ValueKit.rect_emb_unit_val _ _ inb (ix3 0 k d) a
  have e0 : ((Rect.unit (s := S8x64x512) ![g.val, 0, 0] ![1, 64, 512] inb).emb (ix3 0 k d)) 0 = g := Fin.ext ((e 0).trans rfl)
  have e1 : ((Rect.unit (s := S8x64x512) ![g.val, 0, 0] ![1, 64, 512] inb).emb (ix3 0 k d)) 1 = k :=
    Fin.ext ((e 1).trans (Nat.zero_add _))
  have e2 : ((Rect.unit (s := S8x64x512) ![g.val, 0, 0] ![1, 64, 512] inb).emb (ix3 0 k d)) 2 = d :=
    Fin.ext ((e 2).trans (Nat.zero_add _))
  rw [e0, e1, e2]

/-- The store into the output block moves the clusters in front of the images. -/
theorem block_apply (s : Vec Ideal S8x64x512 .f32) (k : Fin 64) (g : Fin 8) (d : Fin 512) :
    k0_pay2 s (ix4 k 0 g d) = s (ix3 g k d) := by
  pointwise [k0_pay2]

end Entries

end Cert.KernelIdeal.Vlad

end
-- ==== Proof.Block.lean ====
/- What a grid point leaves in the output's staging buffer: at cluster `k`, image `g` of the point's eight and channel
   `d`, `Cert.Netvlad.out` of the image. -/
module

public import proofs.«01_k».proof.Proof.Slab
public import proofs.«01_k».proof.Proof.Gen.KernelIdeal.Frame

@[expose] public section

set_option maxRecDepth 16384

noncomputable section

namespace Cert.KernelIdeal.Vlad

open Idealize.ShloMosaic Idealize.ShloMosaic.TcCoe Idealize.SL.Sem
open Idealize.ShloMosaic.Tactic
open Cert.KernelIdeal Cert.KernelIdeal.Gen Cert.KernelIdeal.Facts Cert.Netvlad

/-- The scratch buffer's pieces, the last store first, given what each store holds. -/
abbrev pieces (s0 s1 s2 s3 s4 s5 s6 s7 : FVec Ideal S1x64x512 .f32) : List (View.Piece (Elt Ideal) S8x64x512 .f32) :=
  [⟨Rect.unit ![7, 0, 0] ![1, 64, 512] inb_S8x64x512_S1x64x512_7_0_0, s7⟩,
   ⟨Rect.unit ![6, 0, 0] ![1, 64, 512] inb_S8x64x512_S1x64x512_6_0_0, s6⟩,
   ⟨Rect.unit ![5, 0, 0] ![1, 64, 512] inb_S8x64x512_S1x64x512_5_0_0, s5⟩,
   ⟨Rect.unit ![4, 0, 0] ![1, 64, 512] inb_S8x64x512_S1x64x512_4_0_0, s4⟩,
   ⟨Rect.unit ![3, 0, 0] ![1, 64, 512] inb_S8x64x512_S1x64x512_3_0_0, s3⟩,
   ⟨Rect.unit ![2, 0, 0] ![1, 64, 512] inb_S8x64x512_S1x64x512_2_0_0, s2⟩,
   ⟨Rect.unit ![1, 0, 0] ![1, 64, 512] inb_S8x64x512_S1x64x512_1_0_0, s1⟩,
   ⟨Rect.unit ![0, 0, 0] ![1, 64, 512] inb_S8x64x512_S1x64x512_0_0_0, s0⟩]

/-- The eight stores of a point leave `scratch` in the scratch buffer. -/
theorem canon_pieces (x0 : Vec Ideal S1x8x1024x512 .f32) (x1 x2 : Vec Ideal S64x512 .f32) (j : S8x64x512.Idx) :
    View.canon (pieces (k0_pay5 x1 x0 x2) (k0_pay7 (k0_pay6 x1 x0) x2) (k0_pay8 (k0_pay3 x0) (k0_pay4 x1 x0) x2)
      (k0_pay11 (k0_pay9 (k0_pay3 x0) (k0_pay4 x1 x0)) x2 k0_pay10) (k0_pay12 (k0_pay3 x0) (k0_pay4 x1 x0) x2)
      (k0_pay15 (k0_pay13 (k0_pay3 x0) (k0_pay4 x1 x0) x2) (k0_pay14 (k0_pay3 x0) (k0_pay4 x1 x0) x2))
      (k0_pay16 (k0_pay3 x0) (k0_pay4 x1 x0) x2)
      (k0_pay1 (k0_pay17 (k0_pay3 x0) (k0_pay4 x1 x0) x2) (k0_pay18 (k0_pay3 x0) (k0_pay4 x1 x0) x2) k0_pay19)) j
      = scratch x0 x1 x2 j := by
  rw [store_0, store_1, store_2, store_3, store_4, store_5, store_6, store_7]
  refine View.canon_apply_of_pieces (Val := Elt Ideal) (e := .f32) (scratch x0 x1 x2) _ ?_ j ?_
  · intro q hq
    simp only [List.mem_cons, List.not_mem_nil, or_false] at hq
    rcases hq with rfl | rfl | rfl | rfl | rfl | rfl | rfl | rfl
    · exact slab_piece x0 x1 x2 7 _ rfl _ _ inb_S8x64x512_S1x64x512_7_0_0
    · exact slab_piece x0 x1 x2 6 _ rfl _ _ inb_S8x64x512_S1x64x512_6_0_0
    · exact slab_piece x0 x1 x2 5 _ rfl _ _ inb_S8x64x512_S1x64x512_5_0_0
    · exact slab_piece x0 x1 x2 4 _ rfl _ _ inb_S8x64x512_S1x64x512_4_0_0
    · exact slab_piece x0 x1 x2 3 _ rfl _ _ inb_S8x64x512_S1x64x512_3_0_0
    · exact slab_piece x0 x1 x2 2 _ rfl _ _ inb_S8x64x512_S1x64x512_2_0_0
    · exact slab_piece x0 x1 x2 1 _ rfl _ _ inb_S8x64x512_S1x64x512_1_0_0
    · exact slab_piece x0 x1 x2 0 _ rfl _ _ inb_S8x64x512_S1x64x512_0_0_0
  · exact View.cover_of_tiledL _ ![1, 64, 512] (by sl_kernel_rfl) j

variable (m : (ℓ : Loc nD τ sig) → Buf (Elt Ideal) ℓ)

/-- The output's staging buffer after point `t`. -/
theorem outs_apply (c : Dev nD) (t : Fin cfg0.N) (k : Fin 64) (g : Fin 8) (d : Fin 512) :
    outsAt0 m c t (ix4 k 0 g d)
      = out (image (iblk m c 0 t) g) (matrix (iblk m c 1 t)) (matrix (iblk m c 2 t)) k d := by
  have h2 : (![0, 0] : Fin 2 → ℕ) = fun _ => 0 := by decide
  have h3 : (![0, 0, 0] : Fin 3 → ℕ) = fun _ => 0 := by decide
  have h4 : (![0, 0, 0, 0] : Fin 4 → ℕ) = fun _ => 0 := by decide
  unfold outsAt0 out0_A_3
  rw [View.read_writes_eq_canon _ _ _ (cover0_A_3 c _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero h4, block_apply, View.readCov_eq_canon', View.ld_unit_zero h4, View.ld_unit_zero h2,
    View.ld_unit_zero h2]
  have hj : (Rect.unit ![0, 0, 0] ![8, 64, 512] inb_S8x64x512_S8x64x512_0_0_0).idx (ix3 g k d) = ix3 g k d := by
    funext a
    apply Fin.ext
    exact (ValueKit.rect_emb_unit_val _ _ inb_S8x64x512_S8x64x512_0_0_0 (ix3 g k d) a).trans
      ((congrArg (· + _) (congrFun h3 a)).trans (Nat.zero_add _))
  refine Eq.trans ?_ (canon_pieces (iblk m c 0 t) (iblk m c 1 t) (iblk m c 2 t) (ix3 g k d))
  exact congrArg _ hj

end Cert.KernelIdeal.Vlad

end
-- ==== Proof.Arr.lean ====
/- The kernel's run on the ideal arrays: the output array after the pipeline, what the host operations around it do, and
   the result read at an index. -/
module

public import proofs.«01_k».proof.Proof.Block

@[expose] public section

set_option maxRecDepth 16384

noncomputable section

namespace Cert.KernelIdeal.Vlad

open Idealize.ShloMosaic Idealize.ShloMosaic.TcCoe Idealize.SL.Sem
open Idealize.ShloMosaic.Tactic
open Cert.KernelIdeal Cert.KernelIdeal.Gen Cert.KernelIdeal.Facts Cert.Netvlad

variable (m : (ℓ : Loc nD τ sig) → Buf (Elt Ideal) ℓ)

/-- Image `i` of the batch as a matrix of pixels by channels. -/
def pixels (x : FVec Ideal S64x512x32x32 .f32) (i : Fin 64) : Fin 1024 → Fin 512 → EReal :=
  fun n d => x (ix4 i d (row n) (col n))

/-- Image `g` of the eight that grid point `t` takes. -/
def imageOf (t g : Fin 8) : Fin 64 := ⟨t.val * 8 + g.val, by omega⟩

/-- The array that the kernel's launch writes: cluster, grid point, image of the point, channel. -/
def written (c : Dev nD) : S64x8x8x512.Idx → EReal := fun j =>
  out (pixels (m ((c : Thread nD τ).loc main_arg0)) (imageOf (j 1) (j 2)))
    (matrix (m ((c : Thread nD τ).loc main_arg1))) (matrix (m ((c : Thread nD τ).loc main_arg3))) (j 0) (j 3)

/-- The windows' block indices at a grid point. -/
theorem idx (t : Fin cfg0.N) : win0_0.index t = ![t.val, 0, 0, 0] ∧ win0_1.index t = ![0, 0] ∧ win0_2.index t = ![0, 0]
    ∧ win0_3.index t = ![0, t.val, 0, 0] := by
  revert t; decide +kernel

/-- Grid point `t` as a number below eight. -/
def point (t : Fin cfg0.N) : Fin 8 := ⟨t.val, lt_of_lt_of_eq t.isLt N_0⟩

/-- The launch's first operand: the batch with its channels last, its images in groups of eight and its pixels in
    row-major order. -/
theorem entry_apply (c : Dev nD) (t g : Fin 8) (n : Fin 1024) (d : Fin 512) :
    V m c main_v1 (ix4 t g n d)
      = m ((c : Thread nD τ).loc main_arg0) (ix4 (imageOf t g) d (row n) (col n)) := by
  have e : V m c main_v1 = shapeCast S8x8x1024x512
      (transpose S64x32x32x512 [0, 2, 3, 1] (m ((c : Thread nD τ).loc main_arg0) : FVec Ideal S64x512x32x32 .f32)
        transposes_S64x512x32x32_S64x32x32x512_0_2_3_1) shapeCasts_S64x32x32x512_S8x8x1024x512 := by
    simp only [V, V0, hostOps0, List.flatten_cons, List.flatten_nil, List.append_nil]
    after_results
    rfl
  rw [e]
  pointwise
  rfl

/-- The images that grid point `t` loads are those of the batch at `t * 8 + g`. -/
theorem block_image (c : Dev nD) (t : Fin cfg0.N) (g : Fin 8) :
    image (iblk m c 0 t) g = pixels (m ((c : Thread nD τ).loc main_arg0)) (imageOf (point t) g) := by
  funext n d
  show iblk m c 0 t (ix4 0 g n d) = m ((c : Thread nD τ).loc main_arg0) (ix4 (imageOf (point t) g) d (row n) (col n))
  refine Eq.trans ?_ (entry_apply m c (point t) g n d)
  blk_ext [iblk, idx t, point]

/-- The weights are loaded whole at every grid point. -/
theorem block_w (c : Dev nD) (t : Fin cfg0.N) :
    matrix (iblk m c 1 t) = matrix (m ((c : Thread nD τ).loc main_arg1)) := by
  funext n d
  show iblk m c 1 t (ix2 n d) = m ((c : Thread nD τ).loc main_arg1) (ix2 n d)
  blk_ext [iblk, V, idx t]

/-- The centres are loaded whole at every grid point. -/
theorem block_c (c : Dev nD) (t : Fin cfg0.N) :
    matrix (iblk m c 2 t) = matrix (m ((c : Thread nD τ).loc main_arg3)) := by
  funext n d
  show iblk m c 2 t (ix2 n d) = m ((c : Thread nD τ).loc main_arg3) (ix2 n d)
  blk_ext [iblk, V, idx t]

/-- The output array after the launch. -/
theorem array_eq (c : Dev nD) : (dats m 0 c).arrAt 3 cfg0.N = written m c := by
  refine (dats m 0 c).arrAt_eq_of_covers 3 _ (by decide +kernel) fun t hf y => ?_
  blk_simp
  rw [after0_3]
  obtain ⟨k, u, g, d, rfl⟩ : ∃ (k : Fin 64) (u : Fin 1) (g : Fin 8) (d : Fin 512), y = ix4 k u g d :=
    ⟨y 0, y 1, y 2, y 3, eq_ix4 y⟩
  obtain rfl : u = 0 := Subsingleton.elim _ _
  refine (outs_apply m c t k g d).trans ?_
  rw [block_image, block_w, block_c]
  have e : (win0_3.blk t).view.emb (ix4 k 0 g d) = ix4 k (point t) g d := by
    blk_ext [idx t, point]
  exact (congrArg (written m c) e).symm

/-- The kernel's result, as an array of channel, cluster and image. -/
def result (c : Dev nD) : S512x64x64.Idx → EReal := fun j =>
  out (pixels (m ((c : Thread nD τ).loc main_arg0)) (j 2))
    (matrix (m ((c : Thread nD τ).loc main_arg1))) (matrix (m ((c : Thread nD τ).loc main_arg3))) (j 1) (j 0)

/-- The host operations after the launch leave `result` in the result's buffer. -/
theorem tail_eq (c : Dev nD) :
    Pipeline.afterTail₀ cfgs (dats m) 0 (V0 m) [hostOps1] c main_v4 = result m c := by
  have e : Pipeline.afterTail₀ cfgs (dats m) 0 (V0 m) [hostOps1] c main_v4
      = transpose S512x64x64 [2, 0, 1]
          (shapeCast S64x64x512 (written m c : FVec Ideal S64x8x8x512 .f32) shapeCasts_S64x8x8x512_S64x64x512)
          transposes_S64x64x512_S512x64x64_2_0_1 := by
    unfold Pipeline.afterTail₀
    simp only [hostOps1, List.flatten_cons, List.flatten_nil, List.append_nil]
    after_results
    have h : Pipeline.withArrays (cfgs 0).spec c (V0 m c) (fun w => (dats m 0 c).arrAt w (cfgs 0).N)
        (Proc.devRef .tc main_v2) = written m c :=
      (Pipeline.withArrays_arr (cfgs 0).spec (by decide) c (V0 m c) (fun w => (dats m 0 c).arrAt w (cfgs 0).N) 3).trans
        (array_eq m c)
    rw [h]
    rfl
  rw [e]
  funext j
  obtain ⟨d, k, i, rfl⟩ : ∃ (d : Fin 512) (k : Fin 64) (i : Fin 64), j = ix3 d k i := ⟨j 0, j 1, j 2, eq_ix3 j⟩
  pointwise
  have hi : imageOf ⟨i.val / 8, by omega⟩ ⟨i.val % 8, by omega⟩ = i := Fin.ext (by simp only [imageOf]; omega)
  show out (pixels _ (imageOf ⟨i.val / 8, _⟩ ⟨i.val % 8, _⟩)) _ _ k d = _
  rw [hi]
  rfl

/-- The kernel's run: it ends with `result` in the result's buffer and with the arguments unchanged. -/
theorem run (ρ : Dev nD → PrngReg) : θ_run defs (onTc (τ := τ) (main (F := Ideal))) ⟨m, fun _ => 0, ρ⟩ (fun r =>
    ∀ c : Dev nD, r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4
    (Pipeline.mem_restRefs_of main_v4 (by decide) (by decide))).trans (tail_eq m c), h.2 c⟩)
    (θ_run_and (run_main m ρ) (unchanged m ρ))

end Cert.KernelIdeal.Vlad

end
-- ==== Proof.Ref.lean ====
/- The reference read at an index, one stretch of its operations at a time, and its result where pixels, weights and
   biases are finite: `Cert.Netvlad.out` of the image. -/
module

public import proofs.«01_k».proof.Proof.Math
public import proofs.«01_k».proof.Proof.Gen.ReferenceIdeal.Read
public import Idealize.ShloMosaic.Lib.Pointwise

@[expose] public section

set_option maxRecDepth 16384

noncomputable section

namespace Cert.ReferenceIdeal.Vlad

open Idealize.ShloMosaic
open Cert.ReferenceIdeal Cert.ReferenceIdeal.Read Cert.ReferenceIdeal.Facts Cert.Netvlad

/-- The greatest element down the third axis, at an index. -/
theorem reduce_max_apply (y : FVec Ideal S64x64x32x32 .f32) (z : FVec Ideal S_ .f32) (v : EReal) (hv : ∀ j, z j = v)
    (r : S64x64x32x32.ReducesTo [2] S64x64x32) (hz : 0 < S_.numel) (i k : Fin 64) (u : Fin 32) :
    Host.reduce (FloatOps.maximumf (F := Ideal) (φ := .f32)) y z r hz (ix3 i k u)
      = Finset.fold max v (fun h => y (ix4 i k h u)) Finset.univ := by
  pointwise
  rw [hv]

variable (x : FVec Ideal S64x512x32x32 .f32) (w c : FVec Ideal S64x512 .f32) (b : FVec Ideal S64 .f32)

/-- The logits: every pixel against every weight vector, and the bias. -/
theorem logit_apply (i k : Fin 64) (h u : Fin 32) :
    val_main_v4 (F := Ideal) x w b (ix4 i k h u) = (∑ d : Fin 512, w (ix2 k d) * x (ix4 i d h u)) + b (ix1 k) := by
  pointwise [val_main_v4, val_main_v3, val_main_v2, val_main_v1, val_main_v0]

/-- The exponentials of the logits less the column's greatest, normalised down the column. -/
theorem softmax_apply (i k : Fin 64) (h u : Fin 32) :
    val_main_v15 (F := Ideal) x w b (ix4 i k h u)
      = Ideal.div (Ideal.exp (val_main_v4 (F := Ideal) x w b (ix4 i k h u) - val_main_v7 (F := Ideal) x w b (ix3 i k u)))
          (∑ h' : Fin 32, Ideal.exp
            (val_main_v4 (F := Ideal) x w b (ix4 i k h' u) - val_main_v7 (F := Ideal) x w b (ix3 i k u))) := by
  pointwise [val_main_v15, val_main_v14, val_main_v13, val_main_v12, val_main_v11, val_main_v10, val_main_v9, val_main_v8,
    val_main_cst_1]

/-- The residuals: the weighted sum of the pixels less the summed weights times the centre. -/
theorem resid_apply (d : Fin 512) (k i : Fin 64) :
    val_main_v26 (F := Ideal) x w b c (ix3 d k i)
      = (∑ n : Fin 1024, val_main_v15 (F := Ideal) x w b (ix4 i k (row n) (col n)) * x (ix4 i d (row n) (col n)))
          - (∑ n : Fin 1024, val_main_v15 (F := Ideal) x w b (ix4 i k (row n) (col n))) * c (ix2 k d) := by
  unfold row col
  pointwise [val_main_v26, val_main_v25, val_main_v24, val_main_v23, val_main_v22, val_main_v21, val_main_v20, val_main_v19,
    val_main_v18, val_main_v17, val_main_v16, val_main_cst_2]

/-- The result: the residuals over their norm across the clusters, bounded below. -/
theorem result_apply (d : Fin 512) (k i : Fin 64) :
    val_main_v31 (F := Ideal) x w b c (ix3 d k i)
      = Ideal.div (val_main_v26 (F := Ideal) x w b c (ix3 d k i))
          (max (Ideal.sqrt (∑ k' : Fin 64, val_main_v26 (F := Ideal) x w b c (ix3 d k' i)
              * val_main_v26 (F := Ideal) x w b c (ix3 d k' i)))
            (Ideal.ofBits .f32 0x2B8CBCCC#32)) := by
  pointwise [val_main_v31, val_main_v30, val_main_v29, val_main_v28, val_main_v27, val_main_call0_v2, val_main_call0_v1,
    val_main_call0_v0, val_main_cst_3, val_main_call0_cst]

/-- The number that a column's logits are shifted by is the greatest of them. -/
theorem shift_apply (i k : Fin 64) (u : Fin 32) :
    val_main_v7 (F := Ideal) x w b (ix3 i k u)
      = max ⊥ (Finset.fold max ⊥ (fun h => val_main_v4 (F := Ideal) x w b (ix4 i k h u)) Finset.univ) := by
  have h5 : val_main_v5 (F := Ideal) x w b (ix3 i k u)
      = Finset.fold max ⊥ (fun h => val_main_v4 (F := Ideal) x w b (ix4 i k h u)) Finset.univ := by
    unfold val_main_v5
    generalize val_main_v4 (F := Ideal) x w b = y
    generalize hz : val_main_cst (F := Ideal) = z
    refine reduce_max_apply y z ⊥ (fun j => ?_) _ _ i k u
    rw [← hz]
    exact word_bot
  have h6 : val_main_v6 (F := Ideal) (ix3 i k u) = ⊥ := by
    rw [val_main_v6_apply, val_main_cst_0_apply]
    exact word_bot
  rw [val_main_v7_apply, h5, h6]
  generalize Finset.fold max ⊥ (fun h => val_main_v4 (F := Ideal) x w b (ix4 i k h u)) Finset.univ = v
  rfl

/-- Where pixels, weights and biases are finite, the reference's weight of a pixel is the one of the mathematics. -/
theorem softmax_eq (X : S64x512x32x32.Idx → ℝ) (W : S64x512.Idx → ℝ) (B : S64.Idx → ℝ) (i k : Fin 64) (n : Fin 1024) :
    val_main_v15 (F := Ideal) (fun j => (X j : EReal)) (fun j => (W j : EReal)) (fun j => (B j : EReal))
        (ix4 i k (row n) (col n))
      = weight (fun n d => (X (ix4 i d (row n) (col n)) : EReal)) (fun k d => (W (ix2 k d) : EReal)) n k := by
  have hl : ∀ h u, val_main_v4 (F := Ideal) (fun j => (X j : EReal)) (fun j => (W j : EReal)) (fun j => (B j : EReal))
      (ix4 i k h u) = (((∑ d : Fin 512, X (ix4 i d h u) * W (ix2 k d)) + B (ix1 k) : ℝ) : EReal) := by
    intro h u
    rw [logit_apply, EReal.coe_add, ← sum_coe]
    congr 1
    exact Finset.sum_congr rfl fun d _ => by rw [← EReal.coe_mul, mul_comm]
  rw [softmax_apply, shift_apply]
  simp only [hl]
  obtain ⟨t, ht⟩ := fold_max_real fun h : Fin 32 => (∑ d : Fin 512, X (ix4 i d h (col n)) * W (ix2 k d)) + B (ix1 k)
  rw [ht, ← softmax_real (fun n d => X (ix4 i d (row n) (col n))) (fun k d => W (ix2 k d)) (fun k => B (ix1 k)) t n k]
  have hr : ∀ h u, row (pixel h u) = h := fun h u => Fin.ext (by simp only [row, pixel]; omega)
  have hc : ∀ h u, col (pixel h u) = u := fun h u => Fin.ext (by simp only [col, pixel]; omega)
  simp only [hr, hc, EReal.coe_sub]

/-- Where pixels, weights and biases are finite, the reference's residuals are those of the mathematics. -/
theorem resid_eq (X : S64x512x32x32.Idx → ℝ) (W : S64x512.Idx → ℝ) (B : S64.Idx → ℝ) (d : Fin 512) (k i : Fin 64) :
    val_main_v26 (F := Ideal) (fun j => (X j : EReal)) (fun j => (W j : EReal)) (fun j => (B j : EReal)) c (ix3 d k i)
      = resid (fun n d => (X (ix4 i d (row n) (col n)) : EReal)) (fun k d => (W (ix2 k d) : EReal))
          (fun k d => c (ix2 k d)) k d := by
  rw [resid_apply]
  simp only [softmax_eq]
  unfold resid
  rw [sum_weight_real (fun n d => X (ix4 i d (row n) (col n))) (fun k d => W (ix2 k d)) k, word_thirtytwo, mul_comm (c (ix2 k d))]

/-- Where pixels, weights and biases are finite, the reference's result is `out` of the image. -/
theorem result_eq (X : S64x512x32x32.Idx → ℝ) (W : S64x512.Idx → ℝ) (B : S64.Idx → ℝ) (d : Fin 512) (k i : Fin 64) :
    val_main_v31 (F := Ideal) (fun j => (X j : EReal)) (fun j => (W j : EReal)) (fun j => (B j : EReal)) c (ix3 d k i)
      = out (fun n d => (X (ix4 i d (row n) (col n)) : EReal)) (fun k d => (W (ix2 k d) : EReal))
          (fun k d => c (ix2 k d)) k d := by
  rw [result_apply]
  simp only [resid_eq]
  exact normalise _ _ (Finset.sum_nonneg fun _ _ => square_nonneg _)

end Cert.ReferenceIdeal.Vlad

end
-- ==== Proof.Pre.lean ====
/- What the precondition says: pixels, weights and biases are real numbers. -/
module

public import proofs.«01_k».proof.Proof.Math
public import proofs.«01_k».proof.Proof.Gen.Pre_finite_inputs
public import Idealize.ShloMosaic.Lib.Pointwise
public import Idealize.ShloMosaic.Lib.ReduceAll

@[expose] public section

noncomputable section

namespace Cert.Pre_finite_inputs.Vlad

open Idealize.ShloMosaic
open Cert.Pre_finite_inputs Cert.Netvlad

/-- A number whose magnitude compares below infinity is real. -/
theorem real_of_lt (v : EReal) (h : max v (-v) < ⊤) : ∃ r : ℝ, v = (r : EReal) := by
  induction v with
  | bot => simp at h
  | top => simp at h
  | coe r => exact ⟨r, rfl⟩

/-- An array all of whose magnitudes compare below infinity is an array of real numbers. -/
theorem reals_of_all {s : Shape} {axes : List (Fin s.rank)} (a : FVec Ideal s .f32)
    (hb : S_.BroadcastsInDim s (![] : Fin 0 → Fin s.rank))
    (init : IVec S_ 1) (h : s.ReducesTo axes S_) (hu : 0 < S_.numel) (j : S_.Idx)
    (e : Host.reduce IntOp.andi (cmpf .olt (Host.absf a) (broadcastInDim s ![] hb (constant S_ .f32 0x7F800000#32)))
      init h hu j = 1#1) : ∃ f : s.Idx → ℝ, a = fun i => (f i : EReal) := by
  haveI : Subsingleton S_.Idx := ⟨fun _ _ => funext fun q => q.elim0⟩
  have hall : ∀ i, ∃ r : ℝ, a i = (r : EReal) := fun i => by
    have hi := Host.reduce_andi_all _ _ h hu j e i
    have hlt : max (a i) (-(a i)) < Ideal.ofBits .f32 0x7F800000#32 := (Ideal.cmp_olt_eq_one _ _).1 hi
    rw [word_top] at hlt
    exact real_of_lt _ hlt
  exact ⟨fun i => (hall i).choose, funext fun i => (hall i).choose_spec⟩

/-- The predicate holds only of real pixels, weights and biases. -/
theorem reals (x : FVec Ideal S64x512x32x32 .f32) (w c : FVec Ideal S64x512 .f32) (b : FVec Ideal S64 .f32)
    (h : fn (F := Ideal) x w b c = fun _ => 1#1) :
    (∃ X : S64x512x32x32.Idx → ℝ, x = fun j => (X j : EReal)) ∧ (∃ W : S64x512.Idx → ℝ, w = fun j => (W j : EReal))
      ∧ ∃ B : S64.Idx → ℝ, b = fun j => (B j : EReal) := by
  have h0 := congrFun h (fun q => q.elim0)
  unfold fn at h0
  dsimp only at h0
  obtain ⟨h1, hb⟩ := IntOp.andi_eq_one.1 h0
  obtain ⟨hx, hw⟩ := IntOp.andi_eq_one.1 h1
  exact ⟨reals_of_all x _ _ _ _ _ hx, reals_of_all w _ _ _ _ _ hw, reals_of_all b _ _ _ _ _ hb⟩

end Cert.Pre_finite_inputs.Vlad

end
-- ==== Proof.Tie.lean ====
/- The two results side by side: from memories that agree on the arguments, with pixels, weights and biases finite, the
   reference's result is the kernel's. -/
module

public import proofs.«01_k».proof.Proof.Arr
public import proofs.«01_k».proof.Proof.Ref
public import proofs.«01_k».proof.Proof.Pre
public import proofs.«01_k».proof.Defs

@[expose] public section

noncomputable section

namespace Cert.Tie

open Idealize.ShloMosaic Idealize.ShloMosaic.TcCoe Cert.Netvlad

/-- The reference's array at real pixels, weights and biases, and any centres, is the kernel's. -/
theorem arrays_eq (x : FVec Ideal Cert.ReferenceIdeal.S64x512x32x32 .f32) (w c : FVec Ideal Cert.ReferenceIdeal.S64x512 .f32)
    (b : FVec Ideal Cert.ReferenceIdeal.S64 .f32)
    (h : Cert.Pre_finite_inputs.fn (F := Ideal) x w b c = fun _ => 1#1) (d : Fin 512) (k i : Fin 64) :
    Cert.ReferenceIdeal.Read.val_main_v31 (F := Ideal) x w b c (ix3 d k i)
      = out (fun n d => x (ix4 i d (row n) (col n))) (fun k d => w (ix2 k d)) (fun k d => c (ix2 k d)) k d := by
  obtain ⟨⟨X, rfl⟩, ⟨W, rfl⟩, ⟨B, rfl⟩⟩ := Cert.Pre_finite_inputs.Vlad.reals x w c b h
  exact Cert.ReferenceIdeal.Vlad.result_eq c X W B d k i

/-- The reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_inputs m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Cert.ReferenceIdeal.Value.res_main_v31 m' c = Cert.KernelIdeal.Vlad.result m c := by
  obtain ⟨h0, h1, h2, h3⟩ := hagree c
  rw [Cert.ReferenceIdeal.Read.val_main_v31_eq, h0, h1, h2, h3]
  funext j
  obtain ⟨d, k, i, rfl⟩ : ∃ (d : Fin 512) (k : Fin 64) (i : Fin 64), j = ix3 d k i := ⟨j 0, j 1, j 2, eq_ix3 j⟩
  exact arrays_eq _ _ _ _ (hpre c) d k i

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Math
public import proofs.«01_k».proof.Proof.Slab
public import proofs.«01_k».proof.Proof.Block
public import proofs.«01_k».proof.Proof.Arr
public import proofs.«01_k».proof.Proof.Ref
public import proofs.«01_k».proof.Proof.Pre
public import proofs.«01_k».proof.Proof.Tie
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with the arguments unchanged and every counter at zero. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- On real pixels, weights and biases the two runs end with the same result and with the arguments unchanged. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) :=
  fun m g m' g' hpre hagree => ⟨Cert.KernelIdeal.Vlad.result m, Cert.KernelIdeal.Vlad.run m g,
    (θ_run _ _ _).mono (fun _ h c => ⟨(h c).1.trans (Cert.Tie.results_eq m m' hpre hagree c), (h c).2⟩)
      (Cert.ReferenceIdeal.Value.run m' g')⟩

/-- The certificate: the three frames, the idealization of the kernel, and the equality of the results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  ⟨IdealRules.named_const.statement Cert.KernelIdeal.κ "log2e" .f32 0x3FB8AA3B#32 (((Real.log 2)⁻¹ : ℝ) : EReal) rfl,
    IdealRules.named_const.statement Cert.KernelIdeal.κ "eps2" .f32 0x179ABE15#32
      ((5316911940649 / 5316911983139663491615228241121378304 : ℝ) : EReal) rfl⟩,
  algebraic⟩

end Cert.Proof

end
